-- ==== Defs.lean ====
def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v1) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)) →
    ∃ (v0 : (c : Dev Cert.GateIdeal.nD) → Buf (Elt Ideal) ((c.tc : Thread Cert.GateIdeal.nD Cert.GateIdeal.τ).loc Cert.GateIdeal.main_v18)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v18) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v18) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6))

def Claim : Prop :=
  ∃ (hProject : Cert.Project.Facts) (hProjectIdeal : Cert.ProjectIdeal.Facts) (hProjectRefIdeal : Cert.ProjectRefIdeal.Facts) (hOut : Cert.Out.Facts) (hOutIdeal : Cert.OutIdeal.Facts) (hOutRefIdeal : Cert.OutRefIdeal.Facts) (hGate : Cert.Gate.Facts) (hGateIdeal : Cert.GateIdeal.Facts) (hGateRefIdeal : Cert.GateRefIdeal.Facts),
    quiescent_Project (hProject := hProject)
    ∧ quiescent_ProjectIdeal (hProjectIdeal := hProjectIdeal)
    ∧ quiescent_ProjectRefIdeal (hProjectRefIdeal := hProjectRefIdeal)
    ∧ quiescent_Out (hOut := hOut)
    ∧ quiescent_OutIdeal (hOutIdeal := hOutIdeal)
    ∧ quiescent_OutRefIdeal (hOutRefIdeal := hOutRefIdeal)
    ∧ quiescent_Gate (hGate := hGate)
    ∧ quiescent_GateIdeal (hGateIdeal := hGateIdeal)
    ∧ quiescent_GateRefIdeal (hGateRefIdeal := hGateRefIdeal)
    ∧ preserves_Project_ProjectIdeal
    ∧ algebraic_ProjectIdeal_ProjectRefIdeal (hProjectIdeal := hProjectIdeal) (hProjectRefIdeal := hProjectRefIdeal)
    ∧ preserves_Out_OutIdeal
    ∧ algebraic_OutIdeal_OutRefIdeal (hOutIdeal := hOutIdeal) (hOutRefIdeal := hOutRefIdeal)
    ∧ preserves_Gate_GateIdeal
    ∧ algebraic_GateIdeal_GateRefIdeal (hGateIdeal := hGateIdeal) (hGateRefIdeal := hGateRefIdeal)
-- ==== Project.lean ====
abbrev S2x2048x8192 : Shape := ⟨3, ![2, 2048, 8192]⟩
abbrev S8192x3x8192 : Shape := ⟨3, ![8192, 3, 8192]⟩
abbrev S3x8192 : Shape := ⟨2, ![3, 8192]⟩
abbrev S4096x8192 : Shape := ⟨2, ![4096, 8192]⟩
abbrev S3x8192x8192 : Shape := ⟨3, ![3, 8192, 8192]⟩
abbrev S3x1x8192 : Shape := ⟨3, ![3, 1, 8192]⟩
abbrev S3x4096x8192 : Shape := ⟨3, ![3, 4096, 8192]⟩
abbrev S1024x8192 : Shape := ⟨2, ![1024, 8192]⟩
abbrev S1x8192x512 : Shape := ⟨3, ![1, 8192, 512]⟩
abbrev S1x1x512 : Shape := ⟨3, ![1, 1, 512]⟩
abbrev S1x1024x512 : Shape := ⟨3, ![1, 1024, 512]⟩
abbrev S8192x512 : Shape := ⟨2, ![8192, 512]⟩
abbrev S1024x512 : Shape := ⟨2, ![1024, 512]⟩
abbrev S1x512 : Shape := ⟨2, ![1, 512]⟩

abbrev nBuf : Space → Nat
  | .hbm => 7
  | .vmem => 8
  | .smem => 0
  | _ => 0

abbrev bufTy : (tb : Table) → Fin (tcTables nBuf tb) → BufTy
  | .hbm, ⟨0, _⟩ => ⟨S2x2048x8192, .bf16⟩
  | .hbm, ⟨1, _⟩ => ⟨S8192x3x8192, .fp8e4m3⟩
  | .hbm, ⟨2, _⟩ => ⟨S3x8192, .f32⟩
  | .hbm, ⟨3, _⟩ => ⟨S4096x8192, .bf16⟩
  | .hbm, ⟨4, _⟩ => ⟨S3x8192x8192, .fp8e4m3⟩
  | .hbm, ⟨5, _⟩ => ⟨S3x1x8192, .f32⟩
  | .hbm, ⟨6, _⟩ => ⟨S3x4096x8192, .bf16⟩
  | .local _ .vmem, ⟨0, _⟩ => ⟨S1024x8192, .bf16⟩
  | .local _ .vmem, ⟨1, _⟩ => ⟨S1024x8192, .bf16⟩
  | .local _ .vmem, ⟨2, _⟩ => ⟨S1x8192x512, .fp8e4m3⟩
  | .local _ .vmem, ⟨3, _⟩ => ⟨S1x8192x512, .fp8e4m3⟩
  | .local _ .vmem, ⟨4, _⟩ => ⟨S1x1x512, .f32⟩
  | .local _ .vmem, ⟨5, _⟩ => ⟨S1x1x512, .f32⟩
  | .local _ .vmem, ⟨6, _⟩ => ⟨S1x1024x512, .bf16⟩
  | .local _ .vmem, ⟨7, _⟩ => ⟨S1x1024x512, .bf16⟩
  | _, _ => ⟨S2x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 3, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x8192x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ProjectRefIdeal.lean ====
abbrev S2x2048x8192 : Shape := ⟨3, ![2, 2048, 8192]⟩
abbrev S8192x3x8192 : Shape := ⟨3, ![8192, 3, 8192]⟩
abbrev S3x8192 : Shape := ⟨2, ![3, 8192]⟩
abbrev S4096x8192 : Shape := ⟨2, ![4096, 8192]⟩
abbrev S3x4096x8192 : Shape := ⟨3, ![3, 4096, 8192]⟩
abbrev S8192x1x8192 : Shape := ⟨3, ![8192, 1, 8192]⟩
abbrev S8192x8192 : Shape := ⟨2, ![8192, 8192]⟩
abbrev S1x8192 : Shape := ⟨2, ![1, 8192]⟩
abbrev S1x4096x8192 : Shape := ⟨3, ![1, 4096, 8192]⟩

abbrev nBuf : Space → Nat
  | .hbm => 5
  | .vmem => 4
  | .smem => 0
  | _ => 0

abbrev bufTy : (tb : Table) → Fin (tcTables nBuf tb) → BufTy
  | .hbm, ⟨0, _⟩ => ⟨S2x2048x8192, .bf16⟩
  | .hbm, ⟨1, _⟩ => ⟨S8192x3x8192, .fp8e4m3⟩
  | .hbm, ⟨2, _⟩ => ⟨S3x8192, .f32⟩
  | .hbm, ⟨3, _⟩ => ⟨S4096x8192, .bf16⟩
  | .hbm, ⟨4, _⟩ => ⟨S3x4096x8192, .bf16⟩
  | .local _ .vmem, ⟨0, _⟩ => ⟨S4096x8192, .bf16⟩
  | .local _ .vmem, ⟨1, _⟩ => ⟨S8192x3x8192, .fp8e4m3⟩
  | .local _ .vmem, ⟨2, _⟩ => ⟨S3x8192, .f32⟩
  | .local _ .vmem, ⟨3, _⟩ => ⟨S3x4096x8192, .bf16⟩
  | _, _ => ⟨S2x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4096x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Out.lean ====
abbrev S2x2048x16384 : Shape := ⟨3, ![2, 2048, 16384]⟩
abbrev S16384x8192 : Shape := ⟨2, ![16384, 8192]⟩
abbrev S8192 : Shape := ⟨1, ![8192]⟩
abbrev S2x2048x8192 : Shape := ⟨3, ![2, 2048, 8192]⟩
abbrev S4096x16384 : Shape := ⟨2, ![4096, 16384]⟩
abbrev S4096x8192 : Shape := ⟨2, ![4096, 8192]⟩
abbrev S1x8192 : Shape := ⟨2, ![1, 8192]⟩
abbrev S512x16384 : Shape := ⟨2, ![512, 16384]⟩
abbrev S16384x512 : Shape := ⟨2, ![16384, 512]⟩
abbrev S1x512 : Shape := ⟨2, ![1, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S2x2048x16384, .bf16⟩
  | .hbm, ⟨1, _⟩ => ⟨S16384x8192, .fp8e4m3⟩
  | .hbm, ⟨2, _⟩ => ⟨S8192, .f32⟩
  | .hbm, ⟨3, _⟩ => ⟨S2x2048x8192, .bf16⟩
  | .hbm, ⟨4, _⟩ => ⟨S4096x16384, .bf16⟩
  | .hbm, ⟨5, _⟩ => ⟨S4096x8192, .bf16⟩
  | .hbm, ⟨6, _⟩ => ⟨S1x8192, .f32⟩
  | .hbm, ⟨7, _⟩ => ⟨S4096x8192, .bf16⟩
  | .local _ .vmem, ⟨0, _⟩ => ⟨S512x16384, .bf16⟩
  | .local _ .vmem, ⟨1, _⟩ => ⟨S512x16384, .bf16⟩
  | .local _ .vmem, ⟨2, _⟩ => ⟨S16384x512, .fp8e4m3⟩
  | .local _ .vmem, ⟨3, _⟩ => ⟨S16384x512, .fp8e4m3⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | _, _ => ⟨S2x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16384x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S2x2048x16384 : Shape := ⟨3, ![2, 2048, 16384]⟩
abbrev S16384x8192 : Shape := ⟨2, ![16384, 8192]⟩
abbrev S8192 : Shape := ⟨1, ![8192]⟩
abbrev S2x2048x8192 : Shape := ⟨3, ![2, 2048, 8192]⟩
abbrev S4096x16384 : Shape := ⟨2, ![4096, 16384]⟩
abbrev S1x8192 : Shape := ⟨2, ![1, 8192]⟩
abbrev S4096x8192 : Shape := ⟨2, ![4096, 8192]⟩

abbrev nBuf : Space → Nat
  | .hbm => 8
  | .vmem => 5
  | .smem => 0
  | _ => 0

abbrev bufTy : (tb : Table) → Fin (tcTables nBuf tb) → BufTy
  | .hbm, ⟨0, _⟩ => ⟨S2x2048x16384, .bf16⟩
  | .hbm, ⟨1, _⟩ => ⟨S16384x8192, .fp8e4m3⟩
  | .hbm, ⟨2, _⟩ => ⟨S8192, .f32⟩
  | .hbm, ⟨3, _⟩ => ⟨S2x2048x8192, .bf16⟩
  | .hbm, ⟨4, _⟩ => ⟨S4096x16384, .bf16⟩
  | .hbm, ⟨5, _⟩ => ⟨S1x8192, .f32⟩
  | .hbm, ⟨6, _⟩ => ⟨S4096x8192, .bf16⟩
  | .hbm, ⟨7, _⟩ => ⟨S4096x8192, .bf16⟩
  | .local _ .vmem, ⟨0, _⟩ => ⟨S4096x16384, .bf16⟩
  | .local _ .vmem, ⟨1, _⟩ => ⟨S16384x8192, .fp8e4m3⟩
  | .local _ .vmem, ⟨2, _⟩ => ⟨S1x8192, .f32⟩
  | .local _ .vmem, ⟨3, _⟩ => ⟨S4096x8192, .bf16⟩
  | .local _ .vmem, ⟨4, _⟩ => ⟨S4096x8192, .bf16⟩
  | _, _ => ⟨S2x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Gate.lean ====
abbrev S2x320x16384 : Shape := ⟨3, ![2, 320, 16384]⟩
abbrev S16384x8192 : Shape := ⟨2, ![16384, 8192]⟩
abbrev S8192 : Shape := ⟨1, ![8192]⟩
abbrev S2x320x8192 : Shape := ⟨3, ![2, 320, 8192]⟩
abbrev S_ : Shape := ⟨0, ![]⟩
abbrev S640x16384 : Shape := ⟨2, ![640, 16384]⟩
abbrev S640x8192 : Shape := ⟨2, ![640, 8192]⟩
abbrev S1x8192 : Shape := ⟨2, ![1, 8192]⟩
abbrev S16384x256 : Shape := ⟨2, ![16384, 256]⟩
abbrev S1x256 : Shape := ⟨2, ![1, 256]⟩
abbrev S640x256 : Shape := ⟨2, ![640, 256]⟩
abbrev S8192x256 : Shape := ⟨2, ![8192, 256]⟩

abbrev nBuf : Space → Nat
  | .hbm => 30
  | .vmem => 15
  | .smem => 0
  | _ => 0

abbrev bufTy : (tb : Table) → Fin (tcTables nBuf tb) → BufTy
  | .hbm, ⟨0, _⟩ => ⟨S2x320x16384, .bf16⟩
  | .hbm, ⟨1, _⟩ => ⟨S16384x8192, .fp8e4m3⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S2x320x8192, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S640x16384, .bf16⟩
  | .hbm, ⟨24, _⟩ => ⟨S640x8192, .f32⟩
  | .hbm, ⟨25, _⟩ => ⟨S1x8192, .f32⟩
  | .hbm, ⟨26, _⟩ => ⟨S1x8192, .f32⟩
  | .hbm, ⟨27, _⟩ => ⟨S1x8192, .f32⟩
  | .hbm, ⟨28, _⟩ => ⟨S1x8192, .f32⟩
  | .hbm, ⟨29, _⟩ => ⟨S640x8192, .f32⟩
  | .local _ .vmem, ⟨0, _⟩ => ⟨S640x16384, .bf16⟩
  | .local _ .vmem, ⟨1, _⟩ => ⟨S16384x256, .fp8e4m3⟩
  | .local _ .vmem, ⟨2, _⟩ => ⟨S16384x256, .fp8e4m3⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S640x256, .f32⟩
  | .local _ .vmem, ⟨12, _⟩ => ⟨S640x256, .f32⟩
  | .local _ .vmem, ⟨13, _⟩ => ⟨S640x256, .f32⟩
  | .local _ .vmem, ⟨14, _⟩ => ⟨S640x256, .f32⟩
  | _, _ => ⟨S2x320x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S640x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateRefIdeal.lean ====
abbrev S2x320x16384 : Shape := ⟨3, ![2, 320, 16384]⟩
abbrev S16384x8192 : Shape := ⟨2, ![16384, 8192]⟩
abbrev S8192 : Shape := ⟨1, ![8192]⟩
abbrev S2x320x8192 : Shape := ⟨3, ![2, 320, 8192]⟩
abbrev S_ : Shape := ⟨0, ![]⟩
abbrev S1x8192 : Shape := ⟨2, ![1, 8192]⟩
abbrev S640x16384 : Shape := ⟨2, ![640, 16384]⟩
abbrev S640x8192 : Shape := ⟨2, ![640, 8192]⟩

abbrev nBuf : Space → Nat
  | .hbm => 30
  | .vmem => 8
  | .smem => 0
  | _ => 0

abbrev bufTy : (tb : Table) → Fin (tcTables nBuf tb) → BufTy
  | .hbm, ⟨0, _⟩ => ⟨S2x320x16384, .bf16⟩
  | .hbm, ⟨1, _⟩ => ⟨S16384x8192, .fp8e4m3⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S8192, .f32⟩
  | .hbm, ⟨6, _⟩ => ⟨S2x320x8192, .f32⟩
  | .hbm, ⟨7, _⟩ => ⟨S8192, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S1x8192, .f32⟩
  | .hbm, ⟨24, _⟩ => ⟨S1x8192, .f32⟩
  | .hbm, ⟨25, _⟩ => ⟨S1x8192, .f32⟩
  | .hbm, ⟨26, _⟩ => ⟨S1x8192, .f32⟩
  | .hbm, ⟨27, _⟩ => ⟨S640x16384, .bf16⟩
  | .hbm, ⟨28, _⟩ => ⟨S640x8192, .f32⟩
  | .hbm, ⟨29, _⟩ => ⟨S640x8192, .f32⟩
  | .local _ .vmem, ⟨0, _⟩ => ⟨S640x16384, .bf16⟩
  | .local _ .vmem, ⟨1, _⟩ => ⟨S16384x8192, .fp8e4m3⟩
  | .local _ .vmem, ⟨2, _⟩ => ⟨S1x8192, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S640x8192, .f32⟩
  | .local _ .vmem, ⟨7, _⟩ => ⟨S640x8192, .f32⟩
  | _, _ => ⟨S2x320x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S640x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S640x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S640x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Spec.lean ====
/- What each of the three products computes, over the extended reals, as a function of whole argument arrays. -/
module

public import Idealize.ShloMosaic.Lib.Pipeline.ValueKit
public import Idealize.ShloMosaic.Lib.Pointwise

@[expose] public section

noncomputable section

namespace Cert.Spec

open Idealize.ShloMosaic

/-- Row `r` of a `[2, 2048, …]` array laid out as 4096 rows: its batch. -/
abbrev tokB (r : Fin 4096) : Fin 2 := ⟨r.val / 2048, by omega⟩
/-- … and its position in the sequence. -/
abbrev tokS (r : Fin 4096) : Fin 2048 := ⟨r.val % 2048, by omega⟩
/-- Row `r` of a `[2, 320, …]` array laid out as 640 rows: its batch. -/
abbrev stB (r : Fin 640) : Fin 2 := ⟨r.val / 320, by omega⟩
/-- … and its position in the state. -/
abbrev stS (r : Fin 640) : Fin 320 := ⟨r.val % 320, by omega⟩

/-- The output product with its residual: `x + (ox · w) · sw`, at output row `r` and column `o`. -/
def outVal (ox : FVec Ideal ⟨3, ![2, 2048, 16384]⟩ .bf16) (w : FVec Ideal ⟨2, ![16384, 8192]⟩ .fp8e4m3)
    (sw : FVec Ideal ⟨1, ![8192]⟩ .f32) (x : FVec Ideal ⟨3, ![2, 2048, 8192]⟩ .bf16) :
    FVec Ideal ⟨2, ![4096, 8192]⟩ .bf16 := fun i =>
  (x (ix3 (tokB (i 0)) (tokS (i 0)) (i 1)) : EReal)
    + (∑ k : Fin 16384, (ox (ix3 (tokB (i 0)) (tokS (i 0)) k) : EReal) * w (ix2 k (i 1))) * sw (ix1 (i 1))

/-- The input projection: `(xn · w_j) · sw_j` for each of the three parts `j` (query, key, value). -/
def projVal (a : FVec Ideal ⟨3, ![2, 2048, 8192]⟩ .bf16) (w : FVec Ideal ⟨3, ![8192, 3, 8192]⟩ .fp8e4m3)
    (sw : FVec Ideal ⟨2, ![3, 8192]⟩ .f32) : FVec Ideal ⟨3, ![3, 4096, 8192]⟩ .bf16 := fun i =>
  (∑ k : Fin 8192, (a (ix3 (tokB (i 1)) (tokS (i 1)) k) : EReal) * w (ix3 k (i 0) (i 2))) * sw (ix2 (i 0) (i 2))

/-- The gated state update: `s · σ(b_f) + tanh((c · w) · sw + b_z) · σ(b_i)`. -/
def gateVal (a : FVec Ideal ⟨3, ![2, 320, 16384]⟩ .bf16) (w : FVec Ideal ⟨2, ![16384, 8192]⟩ .fp8e4m3)
    (sw bz bf bi : FVec Ideal ⟨1, ![8192]⟩ .f32) (s : FVec Ideal ⟨3, ![2, 320, 8192]⟩ .f32) :
    FVec Ideal ⟨2, ![640, 8192]⟩ .f32 := fun i =>
  (s (ix3 (stB (i 0)) (stS (i 0)) (i 1)) : EReal) * Ideal.logistic (bf (ix1 (i 1)))
    + Ideal.tanh ((∑ k : Fin 16384, (a (ix3 (stB (i 0)) (stS (i 0)) k) : EReal) * w (ix2 k (i 1))) * sw (ix1 (i 1)) + bz (ix1 (i 1)))
      * Ideal.logistic (bi (ix1 (i 1)))

/-- A sum over 16384 terms is the sum of its two halves. -/
theorem sum_halves (f : Fin 16384 → EReal) :
    ∑ k, f k = ∑ x : Fin 8192, f ⟨x.val, by omega⟩ + ∑ x : Fin 8192, f ⟨8192 + x.val, by omega⟩ :=
  Fin.sum_univ_add (a := 8192) (b := 8192) f

end Cert.Spec

end
-- ==== Proof.ProjectValue.lean ====
/- The value of the input projection: its result array after the run is `projVal` of its arguments. -/
module

public import proofs.«01_k».proof.Proof.Gen.ProjectIdeal.Value
public import proofs.«01_k».proof.Proof.Spec
public import Idealize.ShloMosaic.Lib.Pipeline.Covers

@[expose] public section

set_option maxRecDepth 16384

noncomputable section

namespace Cert.ProjectIdeal.Val

open Cert.ProjectIdeal Cert.ProjectIdeal.Gen Cert.Spec Idealize.ShloMosaic Idealize.ShloMosaic.TcCoe Idealize.SL.Sem

variable (m : (ℓ : Loc nD τ sig) → Buf (Elt Ideal) ℓ) (ρ : Dev nD → PrngReg)

/-- Where each window's block lies at grid point `t`. -/
theorem idx : ∀ t : Fin cfg0.N,
    win0_0.index t = ![(grid0.coords t 0).val, 0] ∧ win0_1.index t = ![(grid0.coords t 1).val, 0, (grid0.coords t 2).val] ∧ win0_2.index t = ![(grid0.coords t 1).val, 0, (grid0.coords t 2).val] ∧ win0_3.index t = ![(grid0.coords t 1).val, (grid0.coords t 0).val, (grid0.coords t 2).val] :=
  (by decide +kernel : ∀ t : Fin grid0.N, _)

/-- The result array after the run. -/
theorem final (c : Dev nD) : (dats m 0 c).arrAt 3 cfg0.N
    = projVal (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := idx t
  have e1 : ((((cfg0.win 3).blk t).view.emb y) 1 : ℕ) = (grid0.coords t 0).val * 1024 + (y 1).val := by blk_simp [h]
  blk_simp
  rw [after0_3]
  frame_out
  pointwise [k0_pay1, projVal]
  blk_point [iblk, V, h]
  all_goals first
    | exact congrArg (· / 2048) e1.symm
    | exact congrArg (· % 2048) e1.symm

end Cert.ProjectIdeal.Val

end
-- ==== Proof.ProjectRefValue.lean ====
/- The value of the reference of the input projection: its result array after the run is `projVal` of its arguments. -/
module

public import proofs.«01_k».proof.Proof.Gen.ProjectRefIdeal.Value
public import proofs.«01_k».proof.Proof.Spec
public import Idealize.ShloMosaic.Lib.Pipeline.Covers

@[expose] public section

set_option maxRecDepth 16384

noncomputable section

namespace Cert.ProjectRefIdeal.Val

open Cert.ProjectRefIdeal Cert.ProjectRefIdeal.Gen Cert.Spec Idealize.ShloMosaic Idealize.ShloMosaic.TcCoe Idealize.SL.Sem

variable (m : (ℓ : Loc nD τ sig) → Buf (Elt Ideal) ℓ) (ρ : Dev nD → PrngReg)

/-- Where each window's block lies at grid point `t`. -/
theorem idx : ∀ t : Fin cfg0.N,
    win0_0.index t = ![0, 0] ∧ win0_1.index t = ![0, 0, 0] ∧ win0_2.index t = ![0, 0] ∧ win0_3.index t = ![0, 0, 0] :=
  (by decide +kernel : ∀ t : Fin grid0.N, _)

/-- The activations, their batch and position flattened to one row index. -/
theorem acts (c : Dev nD) (j : S4096x8192.Idx) :
    V m c main_v0 j = m ((c : Thread nD τ).loc main_arg0) (ix3 (tokB (j 0)) (tokS (j 0)) (j 1)) := by
  entry_read
  pointwise

/-- The one block of window 0. -/
theorem blk0 (c : Dev nD) (t : Fin cfg0.N) (j : S4096x8192.Idx) :
    iblk m c 0 t j = m ((c : Thread nD τ).loc main_arg0) (ix3 (tokB (j 0)) (tokS (j 0)) (j 1)) := by
  have h := idx t
  have e : ((cfg0.win 0).blk t).view.emb j = j := funext fun a => Fin.ext (by fin_cases a <;> (blk_simp [h]; try rfl))
  exact (acts m c _).trans (congrArg (fun i : S4096x8192.Idx => m ((c : Thread nD τ).loc main_arg0) (ix3 (tokB (i 0)) (tokS (i 0)) (i 1))) e)

/-- The one block of window 1. -/
theorem blk1 (c : Dev nD) (t : Fin cfg0.N) (j : S8192x3x8192.Idx) : iblk m c 1 t j = m ((c : Thread nD τ).loc main_arg1) j := by
  have h := idx t
  have e : ((cfg0.win 1).blk t).view.emb j = j := funext fun a => Fin.ext (by fin_cases a <;> (blk_simp [h]; try rfl))
  exact congrArg (V m c main_arg1) e

/-- The one block of window 2. -/
theorem blk2 (c : Dev nD) (t : Fin cfg0.N) (j : S3x8192.Idx) : iblk m c 2 t j = m ((c : Thread nD τ).loc main_arg2) j := by
  have h := idx t
  have e : ((cfg0.win 2).blk t).view.emb j = j := funext fun a => Fin.ext (by fin_cases a <;> (blk_simp [h]; try rfl))
  exact congrArg (V m c main_arg2) e

/-- One entry of the store for the part `p`, in the arguments' terms. -/
theorem point (c : Dev nD) (X : S4096x8192.Idx → EReal) (W : S8192x3x8192.Idx → EReal) (S : S3x8192.Idx → EReal)
    (hX : ∀ j, X j = m ((c : Thread nD τ).loc main_arg0) (ix3 (tokB (j 0)) (tokS (j 0)) (j 1))) (hW : ∀ j, W j = m ((c : Thread nD τ).loc main_arg1) j) (hS : ∀ j, S j = m ((c : Thread nD τ).loc main_arg2) j)
    (y : S3x4096x8192.Idx) (p : Fin 3) (r : Fin 4096) (o : Fin 8192) (hp : y 0 = p) (hr : y 1 = r) (ho : y 2 = o) :
    (∑ k : Fin 8192, X (ix2 r k) * W (ix3 k p o)) * S (ix2 p o) = projVal (m ((c : Thread nD τ).loc main_arg0)) (m ((c : Thread nD τ).loc main_arg1)) (m ((c : Thread nD τ).loc main_arg2)) y := by
  subst hp hr ho
  simp only [hX, hW, hS]
  rfl

/-- The result array after the run. -/
theorem final (c : Dev nD) : (dats m 0 c).arrAt 3 cfg0.N
    = projVal (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := idx t
  have e : ((cfg0.win 3).blk t).view.emb y = y := funext fun a => Fin.ext (by fin_cases a <;> (blk_simp [h]; try rfl))
  blk_simp
  rw [after0_3]
  refine Eq.trans ?_ (congrArg (projVal _ _ _) e.symm)
  frame_out
  canon_tiles x hx
  case piece0 =>
    pointwise [k0_pay1, k0_pay2, k0_pay3, k0_pay4, k0_pay5]
    exact point m c (iblk m c 0 t) (iblk m c 1 t) (iblk m c 2 t) (blk0 m c t) (blk1 m c t) (blk2 m c t) y 2 (x 1) (x 2) (Fin.ext (hx0.trans (congrArg (2 + ·) (Nat.lt_one_iff.mp x0_lt)))) (Fin.ext hx1) (Fin.ext hx2)
  case piece1 =>
    pointwise [k0_pay1, k0_pay2, k0_pay3, k0_pay4, k0_pay5]
    exact point m c (iblk m c 0 t) (iblk m c 1 t) (iblk m c 2 t) (blk0 m c t) (blk1 m c t) (blk2 m c t) y 1 (x 1) (x 2) (Fin.ext (hx0.trans (congrArg (1 + ·) (Nat.lt_one_iff.mp x0_lt)))) (Fin.ext hx1) (Fin.ext hx2)
  case piece2 =>
    pointwise [k0_pay1, k0_pay2, k0_pay3, k0_pay4, k0_pay5]
    exact point m c (iblk m c 0 t) (iblk m c 1 t) (iblk m c 2 t) (blk0 m c t) (blk1 m c t) (blk2 m c t) y 0 (x 1) (x 2) (Fin.ext (hx0.trans (Nat.lt_one_iff.mp x0_lt))) (Fin.ext hx1) (Fin.ext hx2)

end Cert.ProjectRefIdeal.Val

end
-- ==== Proof.OutValue.lean ====
/- The value of the output product: its result array after the run is `outVal` of its arguments. -/
module

public import proofs.«01_k».proof.Proof.Gen.OutIdeal.Value
public import proofs.«01_k».proof.Proof.Spec
public import Idealize.ShloMosaic.Lib.Pipeline.Covers

@[expose] public section

set_option maxRecDepth 16384

noncomputable section

namespace Cert.OutIdeal.Val

open Cert.OutIdeal Cert.OutIdeal.Gen Cert.Spec Idealize.ShloMosaic Idealize.ShloMosaic.TcCoe Idealize.SL.Sem

variable (m : (ℓ : Loc nD τ sig) → Buf (Elt Ideal) ℓ) (ρ : Dev nD → PrngReg)

/-- Where each window's block lies at grid point `t`. -/
theorem idx : ∀ t : Fin cfg0.N,
    win0_0.index t = ![(grid0.coords t 0).val, 0] ∧ win0_1.index t = ![0, (grid0.coords t 1).val] ∧ win0_2.index t = ![0, (grid0.coords t 1).val] ∧ win0_3.index t = ![(grid0.coords t 0).val, (grid0.coords t 1).val] ∧ win0_4.index t = ![(grid0.coords t 0).val, (grid0.coords t 1).val] :=
  (by decide +kernel : ∀ t : Fin grid0.N, _)

/-- The result array after the run. -/
theorem final (c : Dev nD) : (dats m 0 c).arrAt 4 cfg0.N
    = outVal (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h := idx t
  have e0 : ((((cfg0.win 4).blk t).view.emb y) 0 : ℕ) = (grid0.coords t 0).val * 512 + (y 0).val := by blk_simp [h]
  blk_simp
  rw [after0_4]
  frame_out
  pointwise [k0_pay1, outVal]
  blk_point [iblk, V, h]
  all_goals first
    | exact congrArg (· / 2048) e0.symm
    | exact congrArg (· % 2048) e0.symm

end Cert.OutIdeal.Val

end
-- ==== Proof.OutRefValue.lean ====
/- The value of the reference of the output product: its result array after the run is `outVal` of its arguments. -/
module

public import proofs.«01_k».proof.Proof.Gen.OutRefIdeal.Value
public import proofs.«01_k».proof.Proof.Spec
public import Idealize.ShloMosaic.Lib.Pipeline.Covers

@[expose] public section

set_option maxRecDepth 16384

noncomputable section

namespace Cert.OutRefIdeal.Val

open Cert.OutRefIdeal Cert.OutRefIdeal.Gen Cert.Spec Idealize.ShloMosaic Idealize.ShloMosaic.TcCoe Idealize.SL.Sem

variable (m : (ℓ : Loc nD τ sig) → Buf (Elt Ideal) ℓ) (ρ : Dev nD → PrngReg)

/-- Where each window's block lies at grid point `t`. -/
theorem idx : ∀ t : Fin cfg0.N,
    win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The result array after the run. -/
theorem final (c : Dev nD) : (dats m 0 c).arrAt 4 cfg0.N
    = outVal (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h := idx t
  have e0 : ((((cfg0.win 4).blk t).view.emb y) 0 : ℕ) = (y 0).val := by blk_simp [h]
  blk_simp
  rw [after0_4]
  frame_out
  pointwise [k0_pay1, outVal]
  blk_point [iblk, V, h]
  all_goals first
    | exact congrArg (· / 2048) e0.symm
    | exact congrArg (· % 2048) e0.symm

end Cert.OutRefIdeal.Val

end
-- ==== Proof.GateValue.lean ====
/- The value of the gated state update: its result array after the run is `gateVal` of its arguments. -/
module

public import proofs.«01_k».proof.Proof.Gen.GateIdeal.Value
public import proofs.«01_k».proof.Proof.Spec
public import Idealize.ShloMosaic.Lib.Pipeline.Covers

@[expose] public section

set_option maxRecDepth 16384

noncomputable section

namespace Cert.GateIdeal.Val

open Cert.GateIdeal Cert.GateIdeal.Gen Cert.Spec Idealize.ShloMosaic Idealize.ShloMosaic.TcCoe Idealize.SL.Sem

variable (m : (ℓ : Loc nD τ sig) → Buf (Elt Ideal) ℓ) (ρ : Dev nD → PrngReg)

/-- Where each window's block lies at grid point `t`. -/
theorem idx : ∀ t : Fin cfg0.N,
    win0_0.index t = ![0, 0] ∧ win0_1.index t = ![0, (grid0.coords t 0).val] ∧ win0_2.index t = ![0, (grid0.coords t 0).val] ∧ win0_3.index t = ![0, (grid0.coords t 0).val] ∧ win0_4.index t = ![0, (grid0.coords t 0).val] ∧ win0_5.index t = ![0, (grid0.coords t 0).val] ∧ win0_6.index t = ![0, (grid0.coords t 0).val] ∧ win0_7.index t = ![0, (grid0.coords t 0).val] :=
  (by decide +kernel : ∀ t : Fin grid0.N, _)

/-- The column of the result that column `j` of grid point `t`'s block is. -/
abbrev col (t : Fin cfg0.N) (j : Fin 256) : Fin 8192 :=
  ⟨(grid0.coords t 0).val * 256 + j.val, by have h : (grid0.coords t 0).val < 32 := (grid0.coords t 0).isLt; omega⟩

/-- The forget gate `σ(b_f)` the host computes, as the row the call is given. -/
theorem keep (c : Dev nD) (j : S1x8192.Idx) :
    V m c main_v16 j = Ideal.logistic (m ((c : Thread nD τ).loc main_arg4) (ix1 (j 1))) := by
  entry_read
  pointwise [Ideal.logistic]

/-- The input gate `σ(b_i)` the host computes, as the row the call is given. -/
theorem write (c : Dev nD) (j : S1x8192.Idx) :
    V m c main_v17 j = Ideal.logistic (m ((c : Thread nD τ).loc main_arg5) (ix1 (j 1))) := by
  entry_read
  pointwise [Ideal.logistic]

/-- The columns' scales, as the row the call is given. -/
theorem scale (c : Dev nD) (j : S1x8192.Idx) : V m c main_v14 j = m ((c : Thread nD τ).loc main_arg2) (ix1 (j 1)) := by
  entry_read
  pointwise

/-- The bias `b_z`, as the row the call is given. -/
theorem bias (c : Dev nD) (j : S1x8192.Idx) : V m c main_v15 j = m ((c : Thread nD τ).loc main_arg3) (ix1 (j 1)) := by
  entry_read
  pointwise

/-- The attention's result, its batch and position flattened to one row index. -/
theorem att (c : Dev nD) (j : S640x16384.Idx) :
    V m c main_v12 j = m ((c : Thread nD τ).loc main_arg0) (ix3 (stB (j 0)) (stS (j 0)) (j 1)) := by
  entry_read
  pointwise

/-- The state, its batch and position flattened to one row index. -/
theorem state (c : Dev nD) (j : S640x8192.Idx) :
    V m c main_v13 j = m ((c : Thread nD τ).loc main_arg6) (ix3 (stB (j 0)) (stS (j 0)) (j 1)) := by
  entry_read
  pointwise

/-- Window 2's block. -/
theorem blk2 (c : Dev nD) (t : Fin cfg0.N) (j : S1x256.Idx) : iblk m c 2 t j = m ((c : Thread nD τ).loc main_arg2) (ix1 (col t (j 1))) := by
  have h := idx t
  have e : ((cfg0.win 2).blk t).view.emb j 1 = col t (j 1) := Fin.ext (by blk_simp [h])
  exact (scale m c _).trans (congrArg (fun k => m ((c : Thread nD τ).loc main_arg2) (ix1 k)) e)

/-- Window 3's block. -/
theorem blk3 (c : Dev nD) (t : Fin cfg0.N) (j : S1x256.Idx) : iblk m c 3 t j = m ((c : Thread nD τ).loc main_arg3) (ix1 (col t (j 1))) := by
  have h := idx t
  have e : ((cfg0.win 3).blk t).view.emb j 1 = col t (j 1) := Fin.ext (by blk_simp [h])
  exact (bias m c _).trans (congrArg (fun k => m ((c : Thread nD τ).loc main_arg3) (ix1 k)) e)

/-- Window 4's block. -/
theorem blk4 (c : Dev nD) (t : Fin cfg0.N) (j : S1x256.Idx) : iblk m c 4 t j = Ideal.logistic (m ((c : Thread nD τ).loc main_arg4) (ix1 (col t (j 1)))) := by
  have h := idx t
  have e : ((cfg0.win 4).blk t).view.emb j 1 = col t (j 1) := Fin.ext (by blk_simp [h])
  exact (keep m c _).trans (congrArg (fun k => Ideal.logistic (m ((c : Thread nD τ).loc main_arg4) (ix1 k))) e)

/-- Window 5's block. -/
theorem blk5 (c : Dev nD) (t : Fin cfg0.N) (j : S1x256.Idx) : iblk m c 5 t j = Ideal.logistic (m ((c : Thread nD τ).loc main_arg5) (ix1 (col t (j 1)))) := by
  have h := idx t
  have e : ((cfg0.win 5).blk t).view.emb j 1 = col t (j 1) := Fin.ext (by blk_simp [h])
  exact (write m c _).trans (congrArg (fun k => Ideal.logistic (m ((c : Thread nD τ).loc main_arg5) (ix1 k))) e)

/-- Window 0's block: every row of the attention's result. -/
theorem blk0 (c : Dev nD) (t : Fin cfg0.N) (j : S640x16384.Idx) :
    iblk m c 0 t j = m ((c : Thread nD τ).loc main_arg0) (ix3 (stB (j 0)) (stS (j 0)) (j 1)) := by
  have h := idx t
  have e : ((cfg0.win 0).blk t).view.emb j = j := funext fun a => Fin.ext (by fin_cases a <;> (blk_simp [h]; try rfl))
  exact (att m c _).trans (congrArg (fun i : S640x16384.Idx => m ((c : Thread nD τ).loc main_arg0) (ix3 (stB (i 0)) (stS (i 0)) (i 1))) e)

/-- Window 1's block: a strip of the weights' columns. -/
theorem blk1 (c : Dev nD) (t : Fin cfg0.N) (j : S16384x256.Idx) :
    iblk m c 1 t j = m ((c : Thread nD τ).loc main_arg1) (ix2 (j 0) (col t (j 1))) := by
  have h := idx t
  have e : ((cfg0.win 1).blk t).view.emb j = ix2 (j 0) (col t (j 1)) := funext fun a => Fin.ext (by fin_cases a <;> (blk_simp [h]; try rfl))
  exact congrArg (V m c main_arg1) e

/-- Window 6's block: a strip of the state's columns. -/
theorem blk6 (c : Dev nD) (t : Fin cfg0.N) (j : S640x256.Idx) :
    iblk m c 6 t j = m ((c : Thread nD τ).loc main_arg6) (ix3 (stB (j 0)) (stS (j 0)) (col t (j 1))) := by
  have h := idx t
  have e : ((cfg0.win 6).blk t).view.emb j = ix2 (j 0) (col t (j 1)) := funext fun a => Fin.ext (by fin_cases a <;> (blk_simp [h]; try rfl))
  have q := congrArg (fun i : S640x8192.Idx => m ((c : Thread nD τ).loc main_arg6) (ix3 (stB (i 0)) (stS (i 0)) (i 1))) e
  exact (state m c _).trans q

/-- The result array after the run. -/
theorem final (c : Dev nD) : (dats m 0 c).arrAt 7 cfg0.N
    = gateVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  have h := idx t
  have e : ((cfg0.win 7).blk t).view.emb y = ix2 (y 0) (col t (y 1)) := funext fun a => Fin.ext (by fin_cases a <;> (blk_simp [h]; try rfl))
  blk_simp
  rw [after0_7]
  refine Eq.trans ?_ (congrArg (gateVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e.symm)
  frame_out
  pointwise [k0_pay1, gateVal]
  simp only [sum_halves, blk0, blk1, blk2, blk3, blk4, blk5, blk6]
  rfl

end Cert.GateIdeal.Val

end
-- ==== Proof.GateRefValue.lean ====
/- The value of the reference of the gated state update: its result array after the run is `gateVal` of its arguments. -/
module

public import proofs.«01_k».proof.Proof.Gen.GateRefIdeal.Value
public import proofs.«01_k».proof.Proof.Spec
public import Idealize.ShloMosaic.Lib.Pipeline.Covers

@[expose] public section

set_option maxRecDepth 16384

noncomputable section

namespace Cert.GateRefIdeal.Val

open Cert.GateRefIdeal Cert.GateRefIdeal.Gen Cert.Spec Idealize.ShloMosaic Idealize.ShloMosaic.TcCoe Idealize.SL.Sem

variable (m : (ℓ : Loc nD τ sig) → Buf (Elt Ideal) ℓ) (ρ : Dev nD → PrngReg)

/-- Where each window's block lies at grid point `t`. -/
theorem idx : ∀ t : Fin cfg0.N,
    win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- The column of the result that column `j` of grid point `t`'s block is. -/
abbrev col (t : Fin cfg0.N) (j : Fin 8192) : Fin 8192 :=
  ⟨j.val, by omega⟩

/-- The forget gate `σ(b_f)` the host computes, as the row the call is given. -/
theorem keep (c : Dev nD) (j : S1x8192.Idx) :
    V m c main_v14 j = Ideal.logistic (m ((c : Thread nD τ).loc main_arg4) (ix1 (j 1))) := by
  entry_read
  pointwise [Ideal.logistic]

/-- The input gate `σ(b_i)` the host computes, as the row the call is given. -/
theorem write (c : Dev nD) (j : S1x8192.Idx) :
    V m c main_v15 j = Ideal.logistic (m ((c : Thread nD τ).loc main_arg5) (ix1 (j 1))) := by
  entry_read
  pointwise [Ideal.logistic]

/-- The columns' scales, as the row the call is given. -/
theorem scale (c : Dev nD) (j : S1x8192.Idx) : V m c main_v12 j = m ((c : Thread nD τ).loc main_arg2) (ix1 (j 1)) := by
  entry_read
  pointwise

/-- The bias `b_z`, as the row the call is given. -/
theorem bias (c : Dev nD) (j : S1x8192.Idx) : V m c main_v13 j = m ((c : Thread nD τ).loc main_arg3) (ix1 (j 1)) := by
  entry_read
  pointwise

/-- The attention's result, its batch and position flattened to one row index. -/
theorem att (c : Dev nD) (j : S640x16384.Idx) :
    V m c main_v16 j = m ((c : Thread nD τ).loc main_arg0) (ix3 (stB (j 0)) (stS (j 0)) (j 1)) := by
  entry_read
  pointwise

/-- The state, its batch and position flattened to one row index. -/
theorem state (c : Dev nD) (j : S640x8192.Idx) :
    V m c main_v17 j = m ((c : Thread nD τ).loc main_arg6) (ix3 (stB (j 0)) (stS (j 0)) (j 1)) := by
  entry_read
  pointwise

/-- Window 2's block. -/
theorem blk2 (c : Dev nD) (t : Fin cfg0.N) (j : S1x8192.Idx) : iblk m c 2 t j = m ((c : Thread nD τ).loc main_arg2) (ix1 (col t (j 1))) := by
  have h := idx t
  have e : ((cfg0.win 2).blk t).view.emb j 1 = col t (j 1) := Fin.ext (by blk_simp [h])
  exact (scale m c _).trans (congrArg (fun k => m ((c : Thread nD τ).loc main_arg2) (ix1 k)) e)

/-- Window 3's block. -/
theorem blk3 (c : Dev nD) (t : Fin cfg0.N) (j : S1x8192.Idx) : iblk m c 3 t j = m ((c : Thread nD τ).loc main_arg3) (ix1 (col t (j 1))) := by
  have h := idx t
  have e : ((cfg0.win 3).blk t).view.emb j 1 = col t (j 1) := Fin.ext (by blk_simp [h])
  exact (bias m c _).trans (congrArg (fun k => m ((c : Thread nD τ).loc main_arg3) (ix1 k)) e)

/-- Window 4's block. -/
theorem blk4 (c : Dev nD) (t : Fin cfg0.N) (j : S1x8192.Idx) : iblk m c 4 t j = Ideal.logistic (m ((c : Thread nD τ).loc main_arg4) (ix1 (col t (j 1)))) := by
  have h := idx t
  have e : ((cfg0.win 4).blk t).view.emb j 1 = col t (j 1) := Fin.ext (by blk_simp [h])
  exact (keep m c _).trans (congrArg (fun k => Ideal.logistic (m ((c : Thread nD τ).loc main_arg4) (ix1 k))) e)

/-- Window 5's block. -/
theorem blk5 (c : Dev nD) (t : Fin cfg0.N) (j : S1x8192.Idx) : iblk m c 5 t j = Ideal.logistic (m ((c : Thread nD τ).loc main_arg5) (ix1 (col t (j 1)))) := by
  have h := idx t
  have e : ((cfg0.win 5).blk t).view.emb j 1 = col t (j 1) := Fin.ext (by blk_simp [h])
  exact (write m c _).trans (congrArg (fun k => Ideal.logistic (m ((c : Thread nD τ).loc main_arg5) (ix1 k))) e)

/-- Window 0's block: every row of the attention's result. -/
theorem blk0 (c : Dev nD) (t : Fin cfg0.N) (j : S640x16384.Idx) :
    iblk m c 0 t j = m ((c : Thread nD τ).loc main_arg0) (ix3 (stB (j 0)) (stS (j 0)) (j 1)) := by
  have h := idx t
  have e : ((cfg0.win 0).blk t).view.emb j = j := funext fun a => Fin.ext (by fin_cases a <;> (blk_simp [h]; try rfl))
  exact (att m c _).trans (congrArg (fun i : S640x16384.Idx => m ((c : Thread nD τ).loc main_arg0) (ix3 (stB (i 0)) (stS (i 0)) (i 1))) e)

/-- Window 1's block: a strip of the weights' columns. -/
theorem blk1 (c : Dev nD) (t : Fin cfg0.N) (j : S16384x8192.Idx) :
    iblk m c 1 t j = m ((c : Thread nD τ).loc main_arg1) (ix2 (j 0) (col t (j 1))) := by
  have h := idx t
  have e : ((cfg0.win 1).blk t).view.emb j = ix2 (j 0) (col t (j 1)) := funext fun a => Fin.ext (by fin_cases a <;> (blk_simp [h]; try rfl))
  exact congrArg (V m c main_arg1) e

/-- Window 6's block: a strip of the state's columns. -/
theorem blk6 (c : Dev nD) (t : Fin cfg0.N) (j : S640x8192.Idx) :
    iblk m c 6 t j = m ((c : Thread nD τ).loc main_arg6) (ix3 (stB (j 0)) (stS (j 0)) (col t (j 1))) := by
  have h := idx t
  have e : ((cfg0.win 6).blk t).view.emb j = ix2 (j 0) (col t (j 1)) := funext fun a => Fin.ext (by fin_cases a <;> (blk_simp [h]; try rfl))
  have q := congrArg (fun i : S640x8192.Idx => m ((c : Thread nD τ).loc main_arg6) (ix3 (stB (i 0)) (stS (i 0)) (i 1))) e
  exact (state m c _).trans q

/-- The result array after the run. -/
theorem final (c : Dev nD) : (dats m 0 c).arrAt 7 cfg0.N
    = gateVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  have h := idx t
  have e : ((cfg0.win 7).blk t).view.emb y = ix2 (y 0) (col t (y 1)) := funext fun a => Fin.ext (by fin_cases a <;> (blk_simp [h]; try rfl))
  blk_simp
  rw [after0_7]
  refine Eq.trans ?_ (congrArg (gateVal (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e.symm)
  frame_out
  pointwise [k0_pay1, gateVal]
  simp only [blk0, blk1, blk2, blk3, blk4, blk5, blk6]
  rfl

end Cert.GateRefIdeal.Val

end
-- ==== Proof.lean ====
module

public import proofs.«01_k».proof.Defs
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Skeleton
public import proofs.«01_k».proof.Proof.Gen.ProjectRefIdeal.Launch
public import proofs.«01_k».proof.Proof.Gen.ProjectRefIdeal.Points
public import proofs.«01_k».proof.Proof.Gen.ProjectRefIdeal.Frame
public import proofs.«01_k».proof.Proof.Gen.ProjectRefIdeal.Value
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.OutRefIdeal.Value
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Skeleton
public import proofs.«01_k».proof.Proof.Gen.GateRefIdeal.Launch
public import proofs.«01_k».proof.Proof.Gen.GateRefIdeal.Points
public import proofs.«01_k».proof.Proof.Gen.GateRefIdeal.Frame
public import proofs.«01_k».proof.Proof.Gen.GateRefIdeal.Value
public import Idealize.ShloMosaic.Adequacy
public import Idealize.ShloMosaic.Init
public import proofs.«01_k».proof.Proof.ProjectValue
public import proofs.«01_k».proof.Proof.ProjectRefValue
public import proofs.«01_k».proof.Proof.OutValue
public import proofs.«01_k».proof.Proof.OutRefValue
public import proofs.«01_k».proof.Proof.GateValue
public import proofs.«01_k».proof.Proof.GateRefValue

@[expose] public section

noncomputable section

namespace Cert.Proof

open Idealize.ShloMosaic Idealize.SL.Sem Cert.Project

/-- The input projection and its reference leave the same array, `projVal` of the arguments. -/
theorem project_algebraic : Cert.algebraic_ProjectIdeal_ProjectRefIdeal (hProjectIdeal := Cert.ProjectIdeal.Gen.facts) (hProjectRefIdeal := Cert.ProjectRefIdeal.Gen.facts) := by
  intro m g m' g' _ e
  refine ⟨fun c => Cert.Spec.projVal (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)), ?_, ?_⟩
  · exact (θ_run _ _ _).mono (fun _ h c => ⟨(h c).1.trans (Cert.ProjectIdeal.Val.final m c), (h c).2⟩)
      (Cert.ProjectIdeal.Value.run_blocks m g)
  · refine (θ_run _ _ _).mono (fun _ h c => ⟨(h c).1.trans ?_, (h c).2⟩) (Cert.ProjectRefIdeal.Value.run_blocks m' g')
    rw [Cert.ProjectRefIdeal.Val.final m' c, (e c).1, (e c).2.1, (e c).2.2]

/-- The output product and its reference leave the same array, `outVal` of the arguments. -/
theorem out_algebraic : Cert.algebraic_OutIdeal_OutRefIdeal (hOutIdeal := Cert.OutIdeal.Gen.facts) (hOutRefIdeal := Cert.OutRefIdeal.Gen.facts) := by
  intro m g m' g' _ e
  refine ⟨fun c => Cert.Spec.outVal (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)), ?_, ?_⟩
  · exact (θ_run _ _ _).mono (fun _ h c => ⟨(h c).1.trans (Cert.OutIdeal.Val.final m c), (h c).2⟩)
      (Cert.OutIdeal.Value.run_blocks m g)
  · refine (θ_run _ _ _).mono (fun _ h c => ⟨(h c).1.trans ?_, (h c).2⟩) (Cert.OutRefIdeal.Value.run_blocks m' g')
    rw [Cert.OutRefIdeal.Val.final m' c, (e c).1, (e c).2.1, (e c).2.2.1, (e c).2.2.2]

/-- The gated state update and its reference leave the same array, `gateVal` of the arguments. -/
theorem gate_algebraic : Cert.algebraic_GateIdeal_GateRefIdeal (hGateIdeal := Cert.GateIdeal.Gen.facts) (hGateRefIdeal := Cert.GateRefIdeal.Gen.facts) := by
  intro m g m' g' _ e
  refine ⟨fun c => Cert.Spec.gateVal (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)) (m ((c.tc : Thread Cert.GateIdeal.nD Cert.GateIdeal.τ).loc Cert.GateIdeal.main_arg6)), ?_, ?_⟩
  · exact (θ_run _ _ _).mono (fun _ h c => ⟨(h c).1.trans (Cert.GateIdeal.Val.final m c), (h c).2⟩)
      (Cert.GateIdeal.Value.run_blocks m g)
  · refine (θ_run _ _ _).mono (fun _ h c => ⟨(h c).1.trans ?_, (h c).2⟩) (Cert.GateRefIdeal.Value.run_blocks m' g')
    rw [Cert.GateRefIdeal.Val.final m' c, (e c).1, (e c).2.1, (e c).2.2.1, (e c).2.2.2.1, (e c).2.2.2.2.1, (e c).2.2.2.2.2.1, (e c).2.2.2.2.2.2]

/-- Every claim: the nine frames, and per call the idealization and the equality with the reference. -/
theorem claim : Cert.Claim :=
  ⟨Cert.Project.Gen.facts, Cert.ProjectIdeal.Gen.facts, Cert.ProjectRefIdeal.Gen.facts, Cert.Out.Gen.facts, Cert.OutIdeal.Gen.facts, Cert.OutRefIdeal.Gen.facts, Cert.Gate.Gen.facts, Cert.GateIdeal.Gen.facts, Cert.GateRefIdeal.Gen.facts,
    fun m ρ _ => Cert.Project.Gen.frame m ρ,
    fun m ρ _ => Cert.ProjectIdeal.Gen.frame m ρ,
    fun m ρ _ => Cert.ProjectRefIdeal.Gen.frame m ρ,
    fun m ρ _ => Cert.Out.Gen.frame m ρ,
    fun m ρ _ => Cert.OutIdeal.Gen.frame m ρ,
    fun m ρ _ => Cert.OutRefIdeal.Gen.frame m ρ,
    fun m ρ _ => Cert.Gate.Gen.frame m ρ,
    fun m ρ _ => Cert.GateIdeal.Gen.frame m ρ,
    fun m ρ _ => Cert.GateRefIdeal.Gen.frame m ρ,
    trivial, project_algebraic, trivial, out_algebraic, trivial, gate_algebraic⟩

end Cert.Proof

end
